-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S9331x512 : Shape := ⟨2, ![9331, 512]⟩
abbrev S1024x512 : Shape := ⟨2, ![1024, 512]⟩
abbrev S9331 : Shape := ⟨1, ![9331]⟩
abbrev S9332x512 : Shape := ⟨2, ![9332, 512]⟩
abbrev S9336x256 : Shape := ⟨2, ![9336, 256]⟩
abbrev S_ : Shape := ⟨0, ![]⟩
abbrev S9331x256 : Shape := ⟨2, ![9331, 256]⟩

abbrev nBuf : Space → Nat
  | .hbm => 6
  | .vmem => 2
  | .smem => 0
  | _ => 0

abbrev bufTy : (tb : Table) → Fin (tcTables nBuf tb) → BufTy
  | .hbm, ⟨0, _⟩ => ⟨S9331x512, .f32⟩
  | .hbm, ⟨1, _⟩ => ⟨S1024x512, .f32⟩
  | .hbm, ⟨2, _⟩ => ⟨S9331, .i32⟩
  | .hbm, ⟨3, _⟩ => ⟨S9331x512, .i1⟩
  | .hbm, ⟨4, _⟩ => ⟨S9332x512, .f32⟩
  | .hbm, ⟨5, _⟩ => ⟨S9331x512, .f32⟩
  | .local _ .vmem, ⟨0, _⟩ => ⟨S9336x256, .f32⟩
  | .local _ .vmem, ⟨1, _⟩ => ⟨S9336x256, .f32⟩
  | _, _ => ⟨S9331x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_3 : BitVec 32 := 0#32
  c0_i32_3
def k0_mult3 : BitVec 32 :=
  let c0_i32_6 : BitVec 32 := 0#32
  c0_i32_6
def k0_mult4 : BitVec 32 :=
  let c0_i32_10 : BitVec 32 := 0#32
  c0_i32_10
def k0_mult5 : BitVec 32 :=
  let c0_i32_14 : BitVec 32 := 0#32
  c0_i32_14
def k0_mult6 : BitVec 32 :=
  let c0_i32_18 : BitVec 32 := 0#32
  c0_i32_18
def k0_mult7 : BitVec 32 :=
  let c0_i32_22 : BitVec 32 := 0#32
  c0_i32_22
def k0_mult8 : BitVec 32 :=
  let c0_i32_26 : BitVec 32 := 0#32
  c0_i32_26
-- ==== Reference.lean ====
abbrev S9331x512 : Shape := ⟨2, ![9331, 512]⟩
abbrev S1024x512 : Shape := ⟨2, ![1024, 512]⟩
abbrev S9331 : Shape := ⟨1, ![9331]⟩
abbrev S9332x512 : Shape := ⟨2, ![9332, 512]⟩
abbrev S_ : Shape := ⟨0, ![]⟩
abbrev S9331x1 : Shape := ⟨2, ![9331, 1]⟩
abbrev S1 : Shape := ⟨1, ![1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S9331x512, .f32⟩
  | .hbm, ⟨1, _⟩ => ⟨S1024x512, .f32⟩
  | .hbm, ⟨2, _⟩ => ⟨S9331, .i32⟩
  | .hbm, ⟨3, _⟩ => ⟨S9331x512, .i1⟩
  | .hbm, ⟨4, _⟩ => ⟨S9332x512, .f32⟩
  | .hbm, ⟨5, _⟩ => ⟨S_, .i32⟩
  | .hbm, ⟨6, _⟩ => ⟨S9331, .i32⟩
  | .hbm, ⟨7, _⟩ => ⟨S9331, .i1⟩
  | .hbm, ⟨8, _⟩ => ⟨S_, .i32⟩
  | .hbm, ⟨9, _⟩ => ⟨S9331, .i32⟩
  | .hbm, ⟨10, _⟩ => ⟨S9331, .i32⟩
  | .hbm, ⟨11, _⟩ => ⟨S9331, .i32⟩
  | .hbm, ⟨12, _⟩ => ⟨S9331x1, .i32⟩
  | .hbm, ⟨13, _⟩ => ⟨S1, .i32⟩
  | .hbm, ⟨14, _⟩ => ⟨S_, .i32⟩
  | .hbm, ⟨15, _⟩ => ⟨S9331x1, .i32⟩
  | .hbm, ⟨16, _⟩ => ⟨S9331x1, .i1⟩
  | .hbm, ⟨17, _⟩ => ⟨S1x1, .i32⟩
  | .hbm, ⟨18, _⟩ => ⟨S9331x1, .i32⟩
  | .hbm, ⟨19, _⟩ => ⟨S9331x1, .i1⟩
  | .hbm, ⟨20, _⟩ => ⟨S9331x1, .i1⟩
  | .hbm, ⟨21, _⟩ => ⟨S_, .i1⟩
  | .hbm, ⟨22, _⟩ => ⟨S9331, .i1⟩
  | .hbm, ⟨23, _⟩ => ⟨S9331x512, .f32⟩
  | .hbm, ⟨24, _⟩ => ⟨S9331x512, .i1⟩
  | .hbm, ⟨25, _⟩ => ⟨S_, .f32⟩
  | .hbm, ⟨26, _⟩ => ⟨S9331x512, .f32⟩
  | .hbm, ⟨27, _⟩ => ⟨S9331x512, .f32⟩
  | .hbm, ⟨28, _⟩ => ⟨S9331x512, .f32⟩
  | .hbm, ⟨29, _⟩ => ⟨S9331x512, .f32⟩
  | _, _ => ⟨S9331x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩

abbrev nD : Nat := 1
abbrev τ : Topo := Topo.v7x

variable {F : FTy → Type} [FloatOps F]
-- ==== Proof.Halves.lean ====
/-
  The array as its two column halves. The kernel's output is written by two transfers, the columns `0 … 255` and the
  columns `256 … 511` of all 9331 rows. This module says that the two halves cover the array, that a transfer read back
  through the region it was written to is what was transferred, and that an array whose two halves were written with
  the halves of another array is that other array. It mentions no run.
-/
module

public import proofs.«01_k».proof.Proof.Gen.Kernel
public import Idealize.ShloMosaic.Lib.Writes

@[expose] public section

namespace Cert.Kernel.Hand

open Cert.Kernel Idealize.ShloMosaic

/-- Columns `0 … 255` of the array, all rows, lie inside it. -/
theorem left_inb : ∀ a, (![0, 0] : Fin 2 → ℕ) a + S9331x256.size a ≤ S9331x512.size a := by decide
/-- Columns `256 … 511` of the array, all rows, lie inside it. -/
theorem right_inb : ∀ a, (![0, 256] : Fin 2 → ℕ) a + S9331x256.size a ≤ S9331x512.size a := by decide

/-- The left half of the array: columns `0 … 255`. -/
abbrev left : Rect S9331x512 := Rect.unit ![0, 0] S9331x256.size left_inb
/-- The right half of the array: columns `256 … 511`. -/
abbrev right : Rect S9331x512 := Rect.unit ![0, 256] S9331x256.size right_inb

/-- The region of a scratch buffer that holds a half: its first 9331 rows of 9336. -/
abbrev inScratch : Rect S9336x256 := Rect.unit ![0, 0] S9331x256.size (by decide)

/-- Every index of the array is in its left half or in its right half. -/
theorem mem_left_or_right (y : S9331x512.Idx) : y ∈ left.set ∨ y ∈ right.set := by
  have h0 : (y 0 : ℕ) < 9331 := (y 0).isLt
  have h1 : (y 1 : ℕ) < 512 := (y 1).isLt
  rcases Nat.lt_or_ge (y 1 : ℕ) 256 with h | h
  · refine Or.inl (Rect.mem_set_unit.mpr fun a => ?_)
    match a with
    | 0 => exact ⟨Nat.zero_le _, by simpa using h0⟩
    | 1 => exact ⟨Nat.zero_le _, by simpa using h⟩
  · refine Or.inr (Rect.mem_set_unit.mpr fun a => ?_)
    match a with
    | 0 => exact ⟨Nat.zero_le _, by simpa using h0⟩
    | 1 => exact ⟨h, by simpa using h1⟩

variable {sig : RefSig} {κ : Kind} {sp : Space} {e : EltTy} {Val : EltTy → Type}

/-- A region written last and read back at once reads what was written, whatever the buffer held before. -/
theorem read_back {s : Shape} (v : View sig κ sp s e) (f : v.ty.Contents Val) (r : Rect s) (w : r.shape.Idx → Val e) :
    (v.slice r).read Val (v.writes Val f [⟨r, w⟩]) = w :=
  funext fun x => View.read_writes_cons_emb v f r w [] x

/-- An array whose left half and right half were written with the left half and the right half of `G` reads `G`,
    whatever it held before. -/
theorem read_halves (v : View sig κ sp S9331x512 e) (f : v.ty.Contents Val) (G : S9331x512.Idx → Val e)
    (wl : left.shape.Idx → Val e) (wr : right.shape.Idx → Val e)
    (hl : ∀ x, wl x = G (left.emb x)) (hr : ∀ x, wr x = G (right.emb x)) :
    v.read Val (v.writes Val f [⟨right, wr⟩, ⟨left, wl⟩]) = G := by
  refine funext fun y => View.read_writes_apply_of_pieces v f G _ (fun p hp x => ?_) y ?_
  · rcases List.mem_cons.mp hp with rfl | hp
    · exact hr x
    · obtain rfl := List.mem_singleton.mp hp
      exact hl x
  · rcases mem_left_or_right y with h | h
    · exact ⟨_, List.mem_cons_of_mem _ List.mem_cons_self, h⟩
    · exact ⟨_, List.mem_cons_self, h⟩

end Cert.Kernel.Hand
-- ==== Proof.Body.lean ====
/-
  The kernel's body, run once. The body copies the two column halves of the array into its two scratch buffers and from
  there into the result, four transfers in all, each waited for on its own semaphore. `kernelRun` says that from any
  contents it ends with the result equal to the array it copies.
-/
module

public import proofs.«01_k».proof.Proof.Halves
public import proofs.«01_k».proof.Proof.Gen.Kernel.Frame
public import proofs.«01_k».proof.Proof.Gen.Kernel.Skeleton
public import Idealize.ShloMosaic.Lib.Pipeline.FrameValue
public import Idealize.ShloMosaic.Lib.Tactic
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- The array the kernel copies, the program's first argument. -/
abbrev xM : Memref sig .tc .hbm S9331x512 .f32 := Memref.whole main_arg0
/-- The result the kernel writes. -/
abbrev oM : Memref sig .tc .hbm S9331x512 .f32 := Memref.whole main_v0
/-- The scratch buffer the left half passes through. -/
abbrev b0M : Memref sig .tc .vmem S9336x256 .f32 := Memref.whole cc0_scratch0
/-- The scratch buffer the right half passes through. -/
abbrev b1M : Memref sig .tc .vmem S9336x256 .f32 := Memref.whole cc0_scratch1

/-- The contents of the buffer a memref looks at, on core `c`. -/
abbrev Bf (c : Dev nD) {sp : Space} {S : Shape} {e : EltTy} (M : Memref sig .tc sp S e) : Type := Buf (Elt F) (M.view.loc (c : Thread nD τ))
/-- The buffer a memref looks at, on core `c`, held whole with contents `f`. -/
abbrev pt (c : Dev nD) {sp : Space} {S : Shape} {e : EltTy} (M : Memref sig .tc sp S e) (f : Bf (F := F) c M) : sProp 𝕄 :=
  M.view.loc (c : Thread nD τ) ↦{fullShare} f

/-- The result after the two halves of `fx` were written into it is `fx`, whatever it held before. -/
theorem result_eq (c : Dev nD) (fx : Bf (F := F) c xM) (fo : Bf (F := F) c oM) (wl : left.shape.Idx → Elt F .f32) (wr : right.shape.Idx → Elt F .f32)
    (hl : wl = (xM.view.slice left).read (Elt F) fx) (hr : wr = (xM.view.slice right).read (Elt F) fx) :
    oM.view.writes (Elt F) fo [⟨right, wr⟩, ⟨left, wl⟩] = fx :=
  (Memref.isWhole_whole (sig := sig) main_v0).read_bijective.1
    (read_halves oM.view fo (xM.view.read (Elt F) fx) wl wr (fun x => congrFun hl x) (fun x => congrFun hr x))

/-- What a scratch buffer reads in the region a half was copied to, its columns and its first 9331 rows, is that half. -/
theorem in_scratch (M : Memref sig .tc .vmem S9336x256 .f32) (f : M.view.ty.Contents (Elt F)) (w : left.shape.Idx → Elt F .f32) :
    (M.view.slice inScratch).read (Elt F) (M.view.writes (Elt F) f [⟨inScratch, w⟩]) = w :=
  read_back M.view f inScratch w

set_option sl_exec.dmaWindow true in
/-- From the array at `fx`, the result and the scratch buffers at anything and the four semaphores at zero, the body runs
    to its end. It leaves the array as it was, the result equal to `fx`, the scratch buffers at some contents and the
    four semaphores at zero. -/
theorem kernelRun (c : Dev nD) (fx : Bf (F := F) c xM) (fo : Bf (F := F) c oM) (f0 : Bf (F := F) c b0M) (f1 : Bf (F := F) c b1M)
    (W : Waits sig Unit) (K : PUnit → sProp 𝕄) :
    iprop(pt c xM fx ∗ pt c oM fo ∗ pt c b0M f0 ∗ pt c b1M f1
        ∗ semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0
        ∗ owes (c : Thread nD τ) 0 W
        ∗ (iprop(pt c xM fx ∗ pt c oM fx ∗ (∃ f, pt c b0M f) ∗ (∃ f, pt c b1M f)
              ∗ semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ ∃ W', owes (c : Thread nD τ) 0 W') -∗ K ⟨⟩))
      ⊢ wp frame (wpE (defs₀ (F := F)) Variants.none c none) Set.univ
          (cc0__copy_body xM (Memref.isWhole_whole _) oM (Memref.isWhole_whole _) b0M (Memref.isWhole_whole _) b1M (Memref.isWhole_whole _)
            cc0_scratch2 cc0_scratch3 cc0_scratch4 cc0_scratch5) K := by
  iintro ⟨Hx, Ho, H0, H1, Hq0, Hq1, Hq2, Hq3, HW, Hk⟩
  sl_exec
  sl_step
  iapply Hk
  isplitl [Hx]; · iexact Hx
  isplitl [Ho]
  · rw [result_eq c fx fo (kernelRun.sl.dma0_2 c fx f0) (kernelRun.sl.dma0_3 c fx f1) (in_scratch b0M f0 (kernelRun.sl.dma0 c fx)) (in_scratch b1M f1 (kernelRun.sl.dma0_1 c fx))]
    iexact Ho
  isplitl [H0]; · iexists _; iexact H0
  isplitl [H1]; · iexists _; iexact H1
  isplitl [Hq0]; · iexact Hq0
  isplitl [Hq1]; · iexact Hq1
  isplitl [Hq2]; · iexact Hq2
  isplitl [Hq3]; · iexact Hq3
  iexists _; iexact HW

end Cert.Kernel.Hand
-- ==== Proof.Run.lean ====
/-
  The program's run: the launch of the kernel with the body's run in it. From any memory and with every counter at zero,
  every run ends with the result equal to the first argument, all five arguments as they were and every counter at
  zero. It holds at any representation of the float values.
-/
module

public import proofs.«01_k».proof.Proof.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the kernel takes from the launch -/

/-- The kernel's four semaphores: two for the copies in, two for the copies out. -/
abbrev osem0 : Fin 4 → SemLoc sig := fun j => SemLoc.dma (![0, 1, 2, 3] j)
/-- They are four different scoped semaphores. -/
theorem ownSemFacts0 : Pipeline.OwnSemFacts cfg0.spec osem0 := by decide
/-- The four semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0) := by
  rw [Pipeline.ownSems0_eq_of_list c osem0 [0, 1, 2, 3] (by decide) (by decide)]; rfl

/-- The buffer the kernel reads and does not write. -/
def H0 : Finset (Ref sig .tc) := {main_arg0}
/-- The buffer the kernel writes. -/
def R0 : Finset (Ref sig .tc) := {main_v0}
/-- The array read is no staged window's. -/
theorem H0_sub : H0 ⊆ Pipeline.restRefs sig cfg0.spec := by decide
/-- The result is no staged window's and is not the array read. -/
theorem R0_sub : R0 ⊆ Pipeline.restRefs sig cfg0.spec \ H0 := by decide

/-- What core `c`'s buffers hold after the kernel: the result what the first argument held at the launch. -/
def G (c : Dev nD) : (b : Ref sig .tc) → Buf (Elt F) ((c : Thread nD τ).loc b) :=
  Function.update (V m c) main_v0 (m ((c : Thread nD τ).loc main_arg0))

/-- After the kernel the result holds what the first argument held at the launch. -/
theorem G_result (c : Dev nD) : G m c main_v0 = m ((c : Thread nD τ).loc main_arg0) := Function.update_self ..

/-- What the kernel holds around its one point when the written buffer is at `W`: the two scratch buffers at some
    contents, the generator register, the four semaphores at zero, the array as launched, the result at `W`. -/
theorem Phi_eq (W : (c : Dev nD) → (b : Ref sig .tc) → Buf (Elt F) ((c : Thread nD τ).loc b)) (c : Dev nD) :
    (Pipeline.ΦDRG osem0 cfg0.spec H0 R0 (V m) W c : sProp 𝕄)
      = iprop(iprop((∃ f, pt c b0M f) ∗ (∃ f, pt c b1M f)) ∗ (∃ r, prngReg c r)
          ∗ iprop(semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0)
          ∗ pt c xM (V m c main_arg0) ∗ pt c oM (W c main_v0)) := by
  rw [Pipeline.ΦDRG_eq, scopedRest0_eq, ownSems00_eq]
  unfold Pipeline.routed
  rw [BI.bigSep_eq_bigSepL_of_eq (S := H0) [main_arg0] (by decide) (by decide),
    BI.bigSep_eq_bigSepL_of_eq (S := R0) [main_v0] (by decide) (by decide)]
  rfl

/-! ## The body as the launch calls it -/

/-- What the result holds before the point and after it. -/
def atPoint (t : Fin (cfg0.N + 1)) : (c : Dev nD) → (b : Ref sig .tc) → Buf (Elt F) ((c : Thread nD τ).loc b) :=
  if t = 0 then V m else G m

/-- The launch's data on core `c`: no staged window, the buffers as `atPoint` says, nothing owed. -/
def dats (_ : Fin 1) (c : Dev nD) : Dat τ (Elt F) Unit ℕ (Pipeline.UD sig nD τ) ℕ cfg0 c where
  A w := w.elim0
  after w := w.elim0
  Φ t := Pipeline.ΦDRG osem0 cfg0.spec H0 R0 (V m) (atPoint m t) c
  q _ := fullShare
  owed _ := 0

/-- The one point's body takes the result from its launch contents to the first argument's. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  obtain rfl := fin_N0 t
  rw [show (dats m 0 c).owesAt () t0_0.succ = (dats m 0 c).owesAt () t0_0.castSucc from rfl,
    show (dats m 0 c).Φ t0_0.castSucc = Pipeline.ΦDRG osem0 cfg0.spec H0 R0 (V m) (V m) c from rfl,
    show (dats m 0 c).Φ t0_0.succ = Pipeline.ΦDRG osem0 cfg0.spec H0 R0 (V m) (G m) c from rfl, Phi_eq, Phi_eq, G_result]
  unfold Dat.owesAt Pipeline.owesWithin
  rw [show (dats m 0 c).owed t0_0.castSucc = 0 from rfl]
  iintro ⟨⟨⟨⟨%f0, H0⟩, ⟨%f1, H1⟩⟩, Hg, ⟨Hq0, Hq1, Hq2, Hq3⟩, Hx, Ho⟩, ⟨%W, %hW, HO⟩⟩
  iapply (kernelRun c (V m c main_arg0) (V m c main_v0) f0 f1 W _)
  isplitl [Hx]; · iexact Hx
  isplitl [Ho]; · iexact Ho
  isplitl [H0]; · iexact H0
  isplitl [H1]; · iexact H1
  isplitl [Hq0]; · iexact Hq0
  isplitl [Hq1]; · iexact Hq1
  isplitl [Hq2]; · iexact Hq2
  isplitl [Hq3]; · iexact Hq3
  isplitl [HO]; · iexact HO
  iintro ⟨Hx, Ho, H0, H1, Hq0, Hq1, Hq2, Hq3, ⟨%W', HO⟩⟩
  isplitl [Hx Ho H0 H1 Hg Hq0 Hq1 Hq2 Hq3]
  · isplitl [H0 H1]
    · isplitl [H0]; · iexact H0
      iexact H1
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hx]; · iexact Hx
    iexact Ho
  iexists W'; isplitr; · ipureintro; exact fun _ _ => Or.inl trivial
  iexact HO

/-- The body table's entry at the point is the body. -/
theorem defs₀_row (t : Fin cfg0.N) : defs₀ (F := F) .tc cfg0.body (cfg0.bodyArgs t (cfg0.slots t)) = bodyAt0 t := by
  unfold defs₀; rw [Defs.onTc_tc]

/-- The kernel stages no window: nothing is held for them. -/
theorem no_window (P : Fin cfg0.W → sProp 𝕄) : (BI.emp : sProp 𝕄) ⊢ bigSep Finset.univ P :=
  Entails.of_eq (by rw [show (Finset.univ : Finset (Fin cfg0.W)) = ∅ from rfl, BI.bigSep_empty])

/-- `sound_body` in the form the launch asks for. -/
theorem body_obligation (c : Dev nD) :
    BodyObligation (dats (F := F) m 0 c) (defs₀ (F := F)) Variants.none () Set.univ := fun t => by
  rw [defs₀_row]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    iapply (no_window _)
    iempintro

/-! ## The launch -/

/-- The program is the launch of the kernel alone. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run ends with each buffer the kernel does not write as launched, the result at `G`, and every counter at zero. -/
theorem run_region :
    θ_run defs (onTc (τ := τ) (main (F := F))) (s₀ m ρ)
      (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0)
    (G := G m) (hin := fun _ => .rfl) (hout := fun _ => .rfl)

/-- Every run ends with the result equal to what the first argument held at the launch, the five arguments as
    launched, and every counter at zero. -/
theorem run_main :
    θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    refine ⟨fun c => ?_, h.2⟩
    have keep : ∀ b ∈ Pipeline.restRefs sig cfg0.spec \ R0, r.2.mem ((c.tc : Thread nD τ).loc b) = m ((c.tc : Thread nD τ).loc b) :=
      (h.1.1 c).2
    exact ⟨(h.1.2 c main_v0 (by decide)).trans (G_result m c), keep _ (by decide), keep _ (by decide), keep _ (by decide),
      keep _ (by decide), keep _ (by decide)⟩) (run_region m ρ)

end Cert.Kernel.Hand

end
-- ==== Proof.Ideal.lean ====
/-
  The run of the program read with ideal floats. Its text is the program's own, printed a second time, so the run proved
  for every representation of the floats is its run too.
-/
module

public import proofs.«01_k».proof.Proof.Run
public import proofs.«01_k».proof.Proof.Gen.KernelIdeal
public import Idealize.ShloMosaic.PureOps.Ideal

@[expose] public section

noncomputable section

namespace Cert.KernelIdeal.Hand

open Cert.KernelIdeal Cert.KernelIdeal.Gen Idealize.ShloMosaic Idealize.ShloMosaic.TcCoe Idealize.SL.Sem

/-- Every run of the ideal program ends with the result equal to what the first argument held at the launch, the five
    arguments as launched, and every counter at zero. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Cert.Kernel.Hand.run_main (F := Ideal) m ρ

end Cert.KernelIdeal.Hand

end
-- ==== Proof.lean ====
/-
  The kernel copies its first argument, and the reference returns its first argument. The kernel's run is in Proof/Run.lean
  (Proof/Ideal.lean with ideal floats), over the body's run in Proof/Body.lean and the two halves of the array in
  Proof/Halves.lean. Each claim is read off these runs and the reference's.
-/
module

public import proofs.«01_k».proof.Defs
public import proofs.«01_k».proof.Proof.Run
public import proofs.«01_k».proof.Proof.Ideal
public import proofs.«01_k».proof.Proof.Gen.Reference.Run
public import proofs.«01_k».proof.Proof.Gen.ReferenceIdeal.Run

@[expose] public section

noncomputable section

namespace Cert.Proof

open Idealize.ShloMosaic Idealize.SL.Sem

/-- The kernel runs to its end, leaves its five arguments as launched and every counter at zero. -/
theorem frame_kernel : Cert.quiescent_Kernel := fun m ρ _ =>
  (θ_run Cert.Kernel.defs _ _).mono (fun _ h => ⟨fun c => (h.1 c).2, h.2⟩) (Cert.Kernel.Hand.run_main (F := Bits) m ρ)

/-- The kernel read with ideal floats does the same. -/
theorem frame_kernelIdeal : Cert.quiescent_KernelIdeal := fun m ρ _ =>
  (θ_run Cert.KernelIdeal.defs _ _).mono (fun _ h => ⟨fun c => (h.1 c).2, h.2⟩) (Cert.KernelIdeal.Hand.run_main m ρ)

/-- The reference runs to its end and leaves its five arguments as launched. It declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference read with ideal floats does the same. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With ideal floats the kernel's result and the reference's are equal: each is the first argument. -/
theorem algebraic : Cert.algebraic_KernelIdeal_ReferenceIdeal := fun m ρ m' ρ' _ hagree =>
  ⟨fun c => m ((c.tc : Thread Cert.KernelIdeal.nD Cert.KernelIdeal.τ).loc Cert.KernelIdeal.main_arg0),
    (θ_run Cert.KernelIdeal.defs _ _).mono (fun _ h => h.1) (Cert.KernelIdeal.Hand.run_main m ρ),
    (θ_run Cert.ReferenceIdeal.defs _ _).mono (fun _ h c => ⟨(h c).1.trans (hagree c).1, (h c).2⟩)
      (Cert.ReferenceIdeal.Value.run (F := Ideal) m' ρ')⟩

/-- The kernel's result and the reference's are equal bit for bit: each is the first argument. -/
theorem bitexact : Cert.bitexact_Kernel_Reference := fun m ρ m' ρ' _ hagree =>
  ⟨fun c => m ((c.tc : Thread Cert.Kernel.nD Cert.Kernel.τ).loc Cert.Kernel.main_arg0),
    (θ_run Cert.Kernel.defs _ _).mono (fun _ h => h.1) (Cert.Kernel.Hand.run_main (F := Bits) m ρ),
    (θ_run Cert.Reference.defs _ _).mono (fun _ h c => ⟨(h c).1.trans (hagree c).1, (h c).2⟩)
      (Cert.Reference.Value.run (F := Bits) m' ρ')⟩

/-- Everything the certificate claims. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, trivial, algebraic, bitexact⟩

end Cert.Proof

end
